-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_nonnegative [hPre_labels_nonnegative : Cert.Pre_labels_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_labels_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_nonnegative [hPre_labels_nonnegative : Cert.Pre_labels_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_nonnegative [hKernelIdeal : Cert.KernelIdeal.Facts] [hPre_labels_nonnegative : Cert.Pre_labels_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_nonnegative [hReferenceIdeal : Cert.ReferenceIdeal.Facts] [hPre_labels_nonnegative : Cert.Pre_labels_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log_m" .f32 0xBC24AA2A#32 ((Real.log (99 / 100) : ℝ) : EReal)

def algebraic_KernelIdeal_ReferenceIdeal_pre_labels_nonnegative [hKernelIdeal : Cert.KernelIdeal.Facts] [hReferenceIdeal : Cert.ReferenceIdeal.Facts] [hPre_labels_nonnegative : Cert.Pre_labels_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_nonnegative : Cert.Pre_labels_nonnegative.Facts),
    quiescent_Kernel (hKernel := hKernel)
    ∧ quiescent_KernelIdeal (hKernelIdeal := hKernelIdeal)
    ∧ quiescent_KernelIdeal_pre_labels_nonnegative (hKernelIdeal := hKernelIdeal) (hPre_labels_nonnegative := hPre_labels_nonnegative)
    ∧ quiescent_ReferenceIdeal (hReferenceIdeal := hReferenceIdeal)
    ∧ quiescent_ReferenceIdeal_pre_labels_nonnegative (hReferenceIdeal := hReferenceIdeal) (hPre_labels_nonnegative := hPre_labels_nonnegative)
    ∧ preserves_Kernel_KernelIdeal
    ∧ algebraic_KernelIdeal_ReferenceIdeal_pre_labels_nonnegative (hKernelIdeal := hKernelIdeal) (hReferenceIdeal := hReferenceIdeal) (hPre_labels_nonnegative := hPre_labels_nonnegative)
-- ==== Pre_labels_nonnegative.lean ====
abbrev S1024x64 : Shape := ⟨2, ![1024, 64]⟩
abbrev S1024 : Shape := ⟨1, ![1024]⟩
abbrev S100000x64 : Shape := ⟨2, ![100000, 64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x64 .f32) (main_arg1 : IVec S1024 32) (main_arg2 : FVec F S1024x64 .f32) (main_arg3 : FVec F S100000x64 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 1 := constantI S_ 1 1#1
  let main_v2 : IVec S_ 1 := (fun x v => Host.reduce IntOp.andi x v reducesTo_S1024_S_d0 h_S_) main_v1 main_c_0
  main_v2
-- ==== Kernel.lean ====
abbrev S1024x64 : Shape := ⟨2, ![1024, 64]⟩
abbrev S1024 : Shape := ⟨1, ![1024]⟩
abbrev S100000x64 : Shape := ⟨2, ![100000, 64]⟩
abbrev S1024x1 : Shape := ⟨2, ![1024, 1]⟩
abbrev S1x1024 : Shape := ⟨2, ![1, 1024]⟩
abbrev S1024x100000 : Shape := ⟨2, ![1024, 100000]⟩
abbrev S4096x64 : Shape := ⟨2, ![4096, 64]⟩
abbrev S1024x4096 : Shape := ⟨2, ![1024, 4096]⟩
abbrev S1024x1024 : Shape := ⟨2, ![1024, 1024]⟩
abbrev S1024x128 : Shape := ⟨2, ![1024, 128]⟩
abbrev S4096x1024 : Shape := ⟨2, ![4096, 1024]⟩
abbrev S4096x128 : Shape := ⟨2, ![4096, 128]⟩
abbrev S4096x1 : Shape := ⟨2, ![4096, 1]⟩
abbrev S4096 : Shape := ⟨1, ![4096]⟩
abbrev S1x4096 : Shape := ⟨2, ![1, 4096]⟩

abbrev nBuf : Space → Nat
  | .hbm => 7
  | .vmem => 8
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S1024x64, .f32⟩
  | .hbm, ⟨3, _⟩ => ⟨S100000x64, .f32⟩
  | .hbm, ⟨4, _⟩ => ⟨S1024x1, .i32⟩
  | .hbm, ⟨5, _⟩ => ⟨S1x1024, .i32⟩
  | .hbm, ⟨6, _⟩ => ⟨S1024x100000, .f32⟩
  | .local _ .vmem, ⟨0, _⟩ => ⟨S1024x1, .i32⟩
  | .local _ .vmem, ⟨1, _⟩ => ⟨S1x1024, .i32⟩
  | .local _ .vmem, ⟨2, _⟩ => ⟨S1024x64, .f32⟩
  | .local _ .vmem, ⟨3, _⟩ => ⟨S1024x64, .f32⟩
  | .local _ .vmem, ⟨4, _⟩ => ⟨S4096x64, .f32⟩
  | .local _ .vmem, ⟨5, _⟩ => ⟨S4096x64, .f32⟩
  | .local _ .vmem, ⟨6, _⟩ => ⟨S1024x4096, .f32⟩
  | .local _ .vmem, ⟨7, _⟩ => ⟨S1024x4096, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log_m" => some ((Real.log (99 / 100) : ℝ) : EReal)
  | _ => none
-- ==== ReferenceIdeal.lean ====
abbrev S1024x64 : Shape := ⟨2, ![1024, 64]⟩
abbrev S1024 : Shape := ⟨1, ![1024]⟩
abbrev S100000x64 : Shape := ⟨2, ![100000, 64]⟩
abbrev S_ : Shape := ⟨0, ![]⟩
abbrev S1x64 : Shape := ⟨2, ![1, 64]⟩
abbrev S64 : Shape := ⟨1, ![64]⟩
abbrev S1 : Shape := ⟨1, ![1]⟩
abbrev S100000 : Shape := ⟨1, ![100000]⟩
abbrev S100000x1 : Shape := ⟨2, ![100000, 1]⟩
abbrev S64x100000 : Shape := ⟨2, ![64, 100000]⟩
abbrev S1024x100000 : Shape := ⟨2, ![1024, 100000]⟩

abbrev nBuf : Space → Nat
  | .hbm => 62
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S1024x64, .f32⟩
  | .hbm, ⟨3, _⟩ => ⟨S100000x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S1024x64, .f32⟩
  | .hbm, ⟨9, _⟩ => ⟨S1024, .i32⟩
  | .hbm, ⟨10, _⟩ => ⟨S_, .f32⟩
  | .hbm, ⟨11, _⟩ => ⟨S_, .i32⟩
  | .hbm, ⟨12, _⟩ => ⟨S100000x64, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S1x64, .f32⟩
  | .hbm, ⟨17, _⟩ => ⟨S64, .f32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1, .i32⟩
  | .hbm, ⟨47, _⟩ => ⟨S100000x64, .f32⟩
  | .hbm, ⟨48, _⟩ => ⟨S_, .i32⟩
  | .hbm, ⟨49, _⟩ => ⟨S_, .i32⟩
  | .hbm, ⟨50, _⟩ => ⟨S100000x64, .f32⟩
  | .hbm, ⟨51, _⟩ => ⟨S_, .f32⟩
  | .hbm, ⟨52, _⟩ => ⟨S100000, .f32⟩
  | .hbm, ⟨53, _⟩ => ⟨S100000x1, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S64x100000, .f32⟩
  | .hbm, ⟨61, _⟩ => ⟨S1024x100000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_c : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_while0c_c_6 : Ref sig .tc := ⟨.hbm, 13, rfl⟩
abbrev main_while0c_v9 : Ref sig .tc := ⟨.hbm, 14, rfl⟩
abbrev main_while0b_call0_c : Ref sig .tc := ⟨.hbm, 15, rfl⟩
abbrev main_while0b_call0_v0 : Ref sig .tc := ⟨.hbm, 16, rfl⟩
abbrev main_while0b_v9 : Ref sig .tc := ⟨.hbm, 17, rfl⟩
abbrev main_while0b_call1_v0 : Ref sig .tc := ⟨.hbm, 18, rfl⟩
abbrev main_while0b_v10 : Ref sig .tc := ⟨.hbm, 19, rfl⟩
abbrev main_while0b_c_6 : Ref sig .tc := ⟨.hbm, 20, rfl⟩
abbrev main_while0b_v11 : Ref sig .tc := ⟨.hbm, 21, rfl⟩
abbrev main_while0b_c_7 : Ref sig .tc := ⟨.hbm, 22, rfl⟩
abbrev main_while0b_v12 : Ref sig .tc := ⟨.hbm, 23, rfl⟩
abbrev main_while0b_v13 : Ref sig .tc := ⟨.hbm, 24, rfl⟩
abbrev main_while0b_c_8 : Ref sig .tc := ⟨.hbm, 25, rfl⟩
abbrev main_while0b_c_9 : Ref sig .tc := ⟨.hbm, 26, rfl⟩
abbrev main_while0b_v14 : Ref sig .tc := ⟨.hbm, 27, rfl⟩
abbrev main_while0b_c_10 : Ref sig .tc := ⟨.hbm, 28, rfl⟩
abbrev main_while0b_c_11 : Ref sig .tc := ⟨.hbm, 29, rfl⟩
abbrev main_while0b_v15 : Ref sig .tc := ⟨.hbm, 30, rfl⟩
abbrev main_while0b_c_12 : Ref sig .tc := ⟨.hbm, 31, rfl⟩
abbrev main_while0b_v16 : Ref sig .tc := ⟨.hbm, 32, rfl⟩
abbrev main_while0b_v17 : Ref sig .tc := ⟨.hbm, 33, rfl⟩
abbrev main_while0b_v18 : Ref sig .tc := ⟨.hbm, 34, rfl⟩
abbrev main_while0b_v19 : Ref sig .tc := ⟨.hbm, 35, rfl⟩
abbrev main_while0b_v20 : Ref sig .tc := ⟨.hbm, 36, rfl⟩
abbrev main_while0b_cst_13 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_c_14 : Ref sig .tc := ⟨.hbm, 41, rfl⟩
abbrev main_while0b_v24 : Ref sig .tc := ⟨.hbm, 42, rfl⟩
abbrev main_while0b_c_15 : Ref sig .tc := ⟨.hbm, 43, rfl⟩
abbrev main_while0b_v25 : Ref sig .tc := ⟨.hbm, 44, rfl⟩
abbrev main_while0b_v26 : Ref sig .tc := ⟨.hbm, 45, rfl⟩
abbrev main_while0b_v27 : Ref sig .tc := ⟨.hbm, 46, rfl⟩
abbrev main_while0b_v28 : Ref sig .tc := ⟨.hbm, 47, rfl⟩
abbrev main_while0b_c_16 : Ref sig .tc := ⟨.hbm, 48, rfl⟩
abbrev main_while0b_v29 : Ref sig .tc := ⟨.hbm, 49, rfl⟩
abbrev main_call2_v0 : Ref sig .tc := ⟨.hbm, 50, rfl⟩
abbrev main_call2_cst : Ref sig .tc := ⟨.hbm, 51, rfl⟩
abbrev main_call2_v1 : Ref sig .tc := ⟨.hbm, 52, rfl⟩
abbrev main_call2_v2 : Ref sig .tc := ⟨.hbm, 53, rfl⟩
abbrev main_v2 : Ref sig .tc := ⟨.hbm, 54, rfl⟩
abbrev main_cst_1 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩

abbrev nD : Nat := 1
abbrev τ : Topo := Topo.v7x

variable {F : FTy → Type} [FloatOps F]

abbrev main_while0_count : Scf.Loop 32 := ⟨0#32, 1024#32, 1#32⟩
-- ==== Proof.KernelFrame.lean ====
/-
  The frame of the kernel as printed: it runs, its argument arrays end unchanged and every semaphore counter
  ends at zero. Windows 0‥3 are whole arrays fetched once; window 4 (the prototypes) and window 5 (the result)
  move with the grid point, and their last block overhangs the array. Nothing is said of what the body leaves in
  the result's staging buffer: at bit patterns the last block's matrix product reads the rows past the array's
  end, which nothing names.
-/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole staging buffers -/

set_option maxHeartbeats 1000000 in
/-- On whole buffers the body runs: the five inputs' buffers end as they were, the result's at some contents. -/
theorem body_runs (c : Dev nD) (E : Set ℕ) (i : grid0.Coords)
    (b0 : Memref sig .tc .vmem S1024x1 .i32) (h0 : b0.IsWhole) (b1 : Memref sig .tc .vmem S1x1024 .i32) (h1 : b1.IsWhole)
    (b2 : Memref sig .tc .vmem S1024x64 .f32) (h2 : b2.IsWhole) (b3 : Memref sig .tc .vmem S1024x64 .f32) (h3 : b3.IsWhole)
    (b4 : Memref sig .tc .vmem S4096x64 .f32) (h4 : b4.IsWhole) (b5 : Memref sig .tc .vmem S1024x4096 .f32) (h5 : b5.IsWhole)
    (x0 : Vec F S1024x1 .i32) (x1 : Vec F S1x1024 .i32) (x2 x3 : Vec F S1024x64 .f32) (x4 : Vec F S4096x64 .f32)
    (x5 : Vec F S1024x4096 .f32) (K : PUnit → sProp 𝕄) :
    iprop(owns (c : Thread nD τ) b0 fullShare x0 ∗ owns (c : Thread nD τ) b1 fullShare x1 ∗ owns (c : Thread nD τ) b2 fullShare x2
        ∗ owns (c : Thread nD τ) b3 fullShare x3 ∗ owns (c : Thread nD τ) b4 fullShare x4 ∗ owns (c : Thread nD τ) b5 fullShare x5
        ∗ (iprop(owns (c : Thread nD τ) b0 fullShare x0 ∗ owns (c : Thread nD τ) b1 fullShare x1 ∗ owns (c : Thread nD τ) b2 fullShare x2
            ∗ owns (c : Thread nD τ) b3 fullShare x3 ∗ owns (c : Thread nD τ) b4 fullShare x4
            ∗ (∃ X, owns (c : Thread nD τ) b5 fullShare X)) -∗ K ⟨⟩))
      ⊢ wp frame (wpE (defs₀ (F := F)) Variants.none c none) E (cc0__body i b0 h0 b1 h1 b2 h2 b3 h3 b4 h4 b5 h5) K := by
  simp only [cc0__body_eq_skeleton]; unfold cc0__body_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, -, H5⟩, Hk⟩
  sl_exec
  sl_step
  iapply Hk
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  iexists _; iexists _; isplitr
  swap
  · iexact H5
  ipureintro; rfl

/-! ## The proof data -/

/-- A filler for the rows of the prototypes' buffer past the array's end, which nothing reads. -/
def pad : S4096x64.Idx → Elt F .f32 := fun _ => Scalar.ofBits .f32 0#32

/-- The proof data on core `c`: the arrays as the region finds them; after the body each input's buffer at its
    block (the prototypes' on the rows inside the array), the result's at a contents nothing reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) pad (iblk m c 4 t)
    | ⟨5, _⟩ => fun _ => Scalar.ofBits .f32 0#32
  Φ _ := Pipeline.ΦA spec0 c
  q _ := fullShare
  owed _ := 0

/-- The result's window is the one whose contents after the body are not named. -/
def unnamed5 : Fin cfg0.W → Bool := fun w => match w with
  | ⟨0, _⟩ => false | ⟨1, _⟩ => false | ⟨2, _⟩ => false | ⟨3, _⟩ => false | ⟨4, _⟩ => false | ⟨5, _⟩ => true

/-- The array of a window is the contents the launch finds in it. -/
theorem arr_eq (c : Dev nD) (w : Fin cfg0.W) : (dats m 0 c).A w = V m c (Pipeline.arrRef spec0 w) := by
  dsimp only [dats]

/-- Every grid point finds window 0's block, the label column. -/
theorem found0 (c : Dev nD) (t : Fin cfg0.N) (d) : (dats m 0 c).before 0 t d = iblk m c 0 t :=
  before0_0_of m (dats m 0 c) (arr_eq m c 0) (fun t => by dsimp only [dats]) t d
/-- Every grid point finds window 1's block, the label row. -/
theorem found1 (c : Dev nD) (t : Fin cfg0.N) (d) : (dats m 0 c).before 1 t d = iblk m c 1 t :=
  before0_1_of m (dats m 0 c) (arr_eq m c 1) (fun t => by dsimp only [dats]) t d
/-- Every grid point finds window 2's block, the predictions. -/
theorem found2 (c : Dev nD) (t : Fin cfg0.N) (d) : (dats m 0 c).before 2 t d = iblk m c 2 t :=
  before0_2_of m (dats m 0 c) (arr_eq m c 2) (fun t => by dsimp only [dats]) t d
/-- Every grid point finds window 3's block, the features. -/
theorem found3 (c : Dev nD) (t : Fin cfg0.N) (d) : (dats m 0 c).before 3 t d = iblk m c 3 t :=
  before0_3_of m (dats m 0 c) (arr_eq m c 3) (fun t => by dsimp only [dats]) t d
/-- Every grid point finds the prototypes' at its block on the rows inside the array, at anything past them. -/
theorem found4 (c : Dev nD) (t : Fin cfg0.N) (d) :
    (dats m 0 c).before 4 t d = win0_4.fill (grid0.coords t) d (iblk m c 4 t) := by
  rw [Dat.before_fetched _ 4 t (fetch0_4 t)]
  unfold Dat.fetched Dat.blockOf iblk; rw [arr_eq]

/-- The library's body obligation, the result's window unnamed. -/
theorem obligation (c : Dev nD) :
    BodyObligationLoose (dats m 0 c) (defs₀ (F := F)) Variants.none () Set.univ unnamed5 := fun t => by
  rw [bigSep_W0, bigSep_W0]
  simp only [unnamed5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [found0 m c t d0, found1 m c t d1, found2 m c t d2, found3 m c t d3, found4 m c t d4]
  iapply (body_runs (F := F) c Set.univ (grid0.coords t) _ _ _ _ _ _ _ _ _ _ _ _ (iblk m c 0 t) (iblk m c 1 t) (iblk m c 2 t)
    (iblk m c 3 t) (win0_4.fill (grid0.coords t) d4 (iblk m c 4 t)) d5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists d4
    have hcut : win0_4.cut (grid0.coords t) ((dats m 0 c).after 4 t) = iblk m c 4 t := win0_4.cut_fill _ _ _
    change _ ⊢ owns (c : Thread nD τ) (win0_4.stage (cfg0.slots t 4)) fullShare
      (win0_4.fill (grid0.coords t) d4 (win0_4.cut (grid0.coords t) ((dats m 0 c).after 4 t)))
    rw [hcut]
  iexact H5

/-- Every weakly fair execution of @main terminates; every final state has the input arrays and the buffers no
    window stages as the region found them, and every semaphore counter at zero. -/
theorem run_main : θ_run defs (onTc (τ := τ) (main (F := F))) (s₀ m ρ)
    (fun r => Pipeline.RDat.FramePost cfg0 (fun c => (dats m 0 c).toRForget unnamed5) (V m) r ∧ r.2.sem = fun _ => 0) :=
  Pipeline.θ_run_frame_forget cfgs (dats m) 0 launch0 defs₀ Variants.none unnamed5 m ρ main
    (hbody := obligation m) (hshare := fun c => (dats m 0 c).share_full fun _ => rfl) (howed := fun _ _ => rfl)
    (V := V m) (hmain := hmain m Variants.none) (hA := arr_eq m) (hΦ := fun _ _ => rfl) (Q' := _)

/-- The kernel as printed runs, its four argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ (h : _ ∧ _) => ⟨fun c =>
    ⟨(h.1.arr_in c 2 rfl).trans ((arr_eq m c 2).trans (V_main_arg0 m c)),
      ((h.1 c).2 main_arg1 (Pipeline.mem_restRefs_of main_arg1 (by decide) (by decide))).trans (V_main_arg1 m c),
      (h.1.arr_in c 3 rfl).trans ((arr_eq m c 3).trans (V_main_arg2 m c)),
      (h.1.arr_in c 4 rfl).trans ((arr_eq m c 4).trans (V_main_arg3 m c))⟩, h.2⟩) (run_main m ρ)

end Cert.Kernel.Hand

end
-- ==== Proof.IdealBody.lean ====
/-
  The body of the idealized kernel on whole staging buffers: five inputs read, the result's buffer written
  whole with one expression of the inputs' contents.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- What the body leaves in the result's staging buffer at grid coordinates `i`, of the contents of the label
    column's, the label row's, the predictions', the features' and the prototypes' buffers. -/
def stored (i : grid0.Coords) (x0 : Vec F S1024x1 .i32) (x1 : Vec F S1x1024 .i32) (x2 x3 : Vec F S1024x64 .f32)
    (x4 : Vec F S4096x64 .f32) : Vec F S1024x4096 .f32 := k0_pay1 (k0_pay2 x0 x1 x2) (k0_pay3 i x1) x4 x3

/-- The two spellings of the offsets zero, zero. -/
theorem zz : (![0, 0] : Fin 2 → Nat) = fun _ => 0 := by
  funext a; fin_cases a <;> rfl

set_option maxHeartbeats 1000000 in
/-- On whole buffers the body runs: the five inputs' buffers end as they were, the result's at `stored` of the inputs' contents. -/
theorem body_runs (c : Dev nD) (E : Set ℕ) (i : grid0.Coords)
    (b0 : Memref sig .tc .vmem S1024x1 .i32) (h0 : b0.IsWhole) (b1 : Memref sig .tc .vmem S1x1024 .i32) (h1 : b1.IsWhole)
    (b2 : Memref sig .tc .vmem S1024x64 .f32) (h2 : b2.IsWhole) (b3 : Memref sig .tc .vmem S1024x64 .f32) (h3 : b3.IsWhole)
    (b4 : Memref sig .tc .vmem S4096x64 .f32) (h4 : b4.IsWhole) (b5 : Memref sig .tc .vmem S1024x4096 .f32) (h5 : b5.IsWhole)
    (x0 : Vec F S1024x1 .i32) (x1 : Vec F S1x1024 .i32) (x2 x3 : Vec F S1024x64 .f32) (x4 : Vec F S4096x64 .f32)
    (x5 : Vec F S1024x4096 .f32) (K : PUnit → sProp 𝕄) :
    iprop(owns (c : Thread nD τ) b0 fullShare x0 ∗ owns (c : Thread nD τ) b1 fullShare x1 ∗ owns (c : Thread nD τ) b2 fullShare x2
        ∗ owns (c : Thread nD τ) b3 fullShare x3 ∗ owns (c : Thread nD τ) b4 fullShare x4 ∗ owns (c : Thread nD τ) b5 fullShare x5
        ∗ (iprop(owns (c : Thread nD τ) b0 fullShare x0 ∗ owns (c : Thread nD τ) b1 fullShare x1 ∗ owns (c : Thread nD τ) b2 fullShare x2
            ∗ owns (c : Thread nD τ) b3 fullShare x3 ∗ owns (c : Thread nD τ) b4 fullShare x4
            ∗ owns (c : Thread nD τ) b5 fullShare (stored i x0 x1 x2 x3 x4)) -∗ K ⟨⟩))
      ⊢ wp frame (wpE (defs₀ (F := F)) Variants.none c none) E (cc0__body i b0 h0 b1 h1 b2 h2 b3 h3 b4 h4 b5 h5) K := by
  simp only [cc0__body_eq_skeleton]; unfold cc0__body_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, -, H5⟩, Hk⟩
  subst e0 e1 e2 e3 e4
  sl_exec
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  iexists _; isplitr
  swap
  · iexact H5
  ipureintro
  refine (View.read_writes_eq_canon _ _ _ (fun y => View.cover_of_tiled [⟨_, _⟩] ![1024, 4096] (by rfl) y)).trans ?_
  refine (View.canon_unit_zero (S := S1024x4096) zz _ _).trans ?_
  have l0 := fun f => View.ld_unit_zero (S := S1024x1) zz inb_S1024x1_S1024x1_0_0 (View.read (Elt F) b0.view f)
  have l1 := fun f => View.ld_unit_zero (S := S1x1024) zz inb_S1x1024_S1x1024_0_0 (View.read (Elt F) b1.view f)
  have l2 := fun f => View.ld_unit_zero (S := S1024x64) zz inb_S1024x64_S1024x64_0_0 (View.read (Elt F) b2.view f)
  have l3 := fun f => View.ld_unit_zero (S := S1024x64) zz inb_S1024x64_S1024x64_0_0 (View.read (Elt F) b3.view f)
  have l4 := fun f => View.ld_unit_zero (S := S4096x64) zz inb_S4096x64_S4096x64_0_0 (View.read (Elt F) b4.view f)
  unfold stored
  rw [← l0 f0, ← l1 f1, ← l2 f2, ← l3 f3, ← l4 f4]
  rfl

end Cert.KernelIdeal.Hand

end
-- ==== Proof.Formula.lean ====
/-
  The mathematics of one class row, away from either program: 1024 updates of a row one after the other, and the
  same row in closed form. Over the extended reals: nothing is supposed finite.
-/
module

public import Idealize.ShloMosaic.Lib.Pointwise

@[expose] public section

noncomputable section

namespace Cert.Memory

open Idealize.ShloMosaic

/-- The factor an update keeps of the row. -/
def keep : EReal := ((99 / 100 : ℝ) : EReal)

/-- The logarithm of that factor. -/
def logKeep : EReal := ((Real.log (99 / 100) : ℝ) : EReal)

/-- The factor an update takes of the prediction: the float nearest 0.01. -/
def rate : EReal := Ideal.ofBits .f32 0x3C23D70A#32

/-- The lower bound of a norm: the float nearest 1e-12. -/
def least : EReal := Ideal.ofBits .f32 0x2B8CBCCC#32

/-- How many samples carry the label `w`. -/
def hits (l : Fin 1024 → BitVec 32) (w : BitVec 32) : EReal := ∑ b, if w = l b then 1 else 0

/-- How many samples after `b` carry the label of `b`. -/
def later (l : Fin 1024 → BitVec 32) (b : Fin 1024) : EReal := ∑ b', if l b = l b' ∧ b < b' then 1 else 0

/-- The row `w` in closed form: `p` times `keep` to the number of its samples, plus `rate` times the sum over its
    samples of `keep` to the number of the later ones times the sample's prediction. -/
def moved (l : Fin 1024 → BitVec 32) (x : Fin 1024 → Fin 64 → EReal) (w : BitVec 32) (p : Fin 64 → EReal) (k : Fin 64) : EReal :=
  Ideal.exp (hits l w * logKeep) * p k + rate * ∑ b, (if w = l b then 1 else 0) * (Ideal.exp (later l b * logKeep) * x b k)

/-- The row `w` after the first `n` samples, one update after the other. -/
def updated (l : Fin 1024 → BitVec 32) (x : Fin 1024 → Fin 64 → EReal) (w : BitVec 32) (p : Fin 64 → EReal) : ℕ → Fin 64 → EReal
  | 0 => p
  | n + 1 => fun k => if h : n < 1024 then
      (if w = l ⟨n, h⟩ then keep * updated l x w p n k + rate * x ⟨n, h⟩ k else updated l x w p n k)
    else updated l x w p n k

/-- The product of a feature row with a class row, times the inverse of the class row's norm (at least `least`). -/
def cosine (f u : Fin 64 → EReal) : EReal :=
  (∑ k, f k * u k) * Ideal.div 1 (max (Ideal.sqrt (∑ k, u k * u k)) least)

/-! ## Constants -/

/-- `rate` as a real number. -/
theorem rate_eq : rate = ((10737418 / 2 ^ 30 : ℝ) : EReal) := by
  unfold rate; simp [Ideal.ofBits, Ideal.ieee, -EReal.coe_mul]; norm_num

/-- `rate` is not negative. -/
theorem rate_nonneg : 0 ≤ rate := by
  rw [rate_eq]; exact EReal.coe_nonneg.2 (by norm_num)

/-- `rate` is not infinite. -/
theorem rate_ne_top : rate ≠ ⊤ := by
  rw [rate_eq]; exact EReal.coe_ne_top _

/-- `least` as a real number. -/
theorem least_eq : least = ((9223372 / 2 ^ 63 : ℝ) : EReal) := by
  unfold least; simp [Ideal.ofBits, Ideal.ieee, -EReal.coe_mul]; norm_num

/-- `least` is positive. -/
theorem least_pos : 0 < least := by
  rw [least_eq]; exact EReal.coe_pos.2 (by norm_num)

/-- The float 99 is the number 99. -/
theorem ninety_nine : Ideal.ofBits .f32 0x42C60000#32 = ((99 : ℝ) : EReal) := by
  simp [Ideal.ofBits, Ideal.ieee, -EReal.coe_mul]; norm_num

/-- The float 100 is the number 100. -/
theorem hundred : Ideal.ofBits .f32 0x42C80000#32 = ((100 : ℝ) : EReal) := by
  simp [Ideal.ofBits, Ideal.ieee, -EReal.coe_mul]; norm_num

/-- The quotient of the floats 99 and 100 is `keep`. -/
theorem div_eq_keep : Ideal.div (Ideal.ofBits .f32 0x42C60000#32) (Ideal.ofBits .f32 0x42C80000#32) = keep := by
  rw [ninety_nine, hundred]
  unfold Ideal.div keep
  rw [if_neg (by norm_cast), ← EReal.coe_inv, ← EReal.coe_mul]
  rfl

/-! ## Sums -/

/-- A finite factor not below zero goes into a sum. -/
theorem mul_sum_of_nonneg {ι : Type} [DecidableEq ι] (s : Finset ι) (a : EReal) (h0 : 0 ≤ a) (ht : a ≠ ⊤) (f : ι → EReal) :
    a * ∑ i ∈ s, f i = ∑ i ∈ s, a * f i := by
  induction s using Finset.induction_on with
  | empty => simp
  | insert i s hi ih => rw [Finset.sum_insert hi, Finset.sum_insert hi, EReal.left_distrib_of_nonneg_of_ne_top h0 ht, ih]

/-- `keep` to a natural power. -/
def keepPow (n : ℕ) : EReal := (((99 / 100 : ℝ) ^ n : ℝ) : EReal)

/-- The power zero is 1. -/
theorem keepPow_zero : keepPow 0 = 1 := by simp [keepPow]

/-- The next power is `keep` times the power. -/
theorem keepPow_succ (n : ℕ) : keepPow (n + 1) = keep * keepPow n := by
  unfold keepPow keep; rw [pow_succ, mul_comm, EReal.coe_mul]

/-- `keep` is not negative. -/
theorem keep_nonneg : 0 ≤ keep := by
  unfold keep; exact EReal.coe_nonneg.2 (by norm_num)

/-- `keep` is not infinite. -/
theorem keep_ne_top : keep ≠ ⊤ := EReal.coe_ne_top _

/-- The exponential of a natural multiple of the logarithm is the power. -/
theorem exp_mul_log (n : ℕ) : Ideal.exp ((n : EReal) * logKeep) = keepPow n := by
  have h : ((n : EReal) * logKeep) = (((n : ℝ) * Real.log (99 / 100) : ℝ) : EReal) := by
    rw [EReal.coe_mul]; rfl
  rw [h]
  show ((Real.exp ((n : ℝ) * Real.log (99 / 100)) : ℝ) : EReal) = _
  rw [Real.exp_nat_mul, Real.exp_log (by norm_num)]; rfl

/-! ## The updates in closed form -/

section Closed

variable (l : Fin 1024 → BitVec 32) (x : Fin 1024 → Fin 64 → EReal) (w : BitVec 32) (p : Fin 64 → EReal)

/-- How many of the first `n` samples carry the label `w`. -/
def hitsTo (n : ℕ) : ℕ := (Finset.univ.filter fun b : Fin 1024 => w = l b ∧ b.val < n).card

/-- How many of the first `n` samples come after `b` and carry its label. -/
def laterTo (n : ℕ) (b : Fin 1024) : ℕ := (Finset.univ.filter fun b' : Fin 1024 => l b = l b' ∧ b < b' ∧ b'.val < n).card

/-- What sample `b` has left of its prediction in row `w` after `n` samples. -/
def partTo (n : ℕ) (k : Fin 64) (b : Fin 1024) : EReal :=
  if w = l b ∧ b.val < n then keepPow (laterTo l n b) * x b k else 0

/-- A sample of the label adds one to the number of hits. -/
theorem hitsTo_hit (n : ℕ) (h : n < 1024) (e : w = l ⟨n, h⟩) : hitsTo l w (n + 1) = hitsTo l w n + 1 := by
  unfold hitsTo
  rw [← Finset.card_insert_of_notMem (a := (⟨n, h⟩ : Fin 1024)) (by simp)]
  congr 1
  ext b
  simp only [Finset.mem_filter, Finset.mem_univ, true_and, Finset.mem_insert, Fin.ext_iff]
  constructor
  · rintro ⟨h1, h2⟩; by_cases hb : b.val = n
    · exact .inl hb
    · exact .inr ⟨h1, by omega⟩
  · rintro (h1 | ⟨h1, h2⟩)
    · have : b = ⟨n, h⟩ := Fin.ext h1
      subst this; exact ⟨e, by simp⟩
    · exact ⟨h1, by omega⟩

/-- A sample of another label leaves the number of hits. -/
theorem hitsTo_miss (n : ℕ) (h : n < 1024) (e : ¬ w = l ⟨n, h⟩) : hitsTo l w (n + 1) = hitsTo l w n := by
  unfold hitsTo
  congr 1
  ext b
  simp only [Finset.mem_filter, Finset.mem_univ, true_and]
  refine and_congr_right fun h1 => ⟨fun h2 => ?_, fun h2 => by omega⟩
  have : b.val ≠ n := fun hb => e (by have : b = ⟨n, h⟩ := Fin.ext hb
                                      rw [← this]; exact h1)
  omega

/-- A sample of the label of an earlier one adds one to the number of that one's later samples. -/
theorem laterTo_hit (n : ℕ) (h : n < 1024) (b : Fin 1024) (hb : b.val < n) (e : l b = l ⟨n, h⟩) :
    laterTo l (n + 1) b = laterTo l n b + 1 := by
  unfold laterTo
  rw [← Finset.card_insert_of_notMem (a := (⟨n, h⟩ : Fin 1024)) (by simp)]
  congr 1
  ext b'
  simp only [Finset.mem_filter, Finset.mem_univ, true_and, Finset.mem_insert, Fin.ext_iff]
  constructor
  · rintro ⟨h1, h2, h3⟩; by_cases hb : b'.val = n
    · exact .inl hb
    · exact .inr ⟨h1, h2, by omega⟩
  · rintro (h1 | ⟨h1, h2, h3⟩)
    · have : b' = ⟨n, h⟩ := Fin.ext h1
      subst this; exact ⟨e, hb, by simp⟩
    · exact ⟨h1, h2, by omega⟩

/-- A sample of another label leaves the number of later samples. -/
theorem laterTo_miss (n : ℕ) (h : n < 1024) (b : Fin 1024) (e : ¬ l b = l ⟨n, h⟩) :
    laterTo l (n + 1) b = laterTo l n b := by
  unfold laterTo
  congr 1
  ext b'
  simp only [Finset.mem_filter, Finset.mem_univ, true_and]
  refine and_congr_right fun h1 => and_congr_right fun _ => ⟨fun h2 => ?_, fun h2 => by omega⟩
  have : b'.val ≠ n := fun hb => e (by have : b' = ⟨n, h⟩ := Fin.ext hb
                                       rw [← this]; exact h1)
  omega

/-- The last sample so far has no later one. -/
theorem laterTo_self (n : ℕ) (h : n < 1024) : laterTo l (n + 1) ⟨n, h⟩ = 0 := by
  unfold laterTo
  rw [Finset.card_eq_zero, Finset.filter_eq_empty_iff]
  rintro b' - ⟨-, h2, h3⟩
  have : n < b'.val := h2
  omega

/-- A sample of row `w` multiplies what every earlier one has left by `keep` and adds its own prediction. -/
theorem partTo_hit (n : ℕ) (h : n < 1024) (e : w = l ⟨n, h⟩) (k : Fin 64) (b : Fin 1024) :
    partTo l x w (n + 1) k b = keep * partTo l x w n k b + (if b = ⟨n, h⟩ then x b k else 0) := by
  unfold partTo
  by_cases hb : b = ⟨n, h⟩
  · subst hb
    rw [if_pos ⟨e, Nat.lt_succ_self n⟩, if_neg (fun hh => Nat.lt_irrefl _ hh.2), if_pos rfl, laterTo_self, keepPow_zero, one_mul,
      mul_zero, zero_add]
  · have hv : b.val ≠ n := fun hh => hb (Fin.ext hh)
    rw [if_neg hb, add_zero]
    by_cases hc : w = l b ∧ b.val < n
    · rw [if_pos ⟨hc.1, by omega⟩, if_pos hc, laterTo_hit l n h b hc.2 (hc.1.symm.trans e), keepPow_succ, mul_assoc]
    · rw [if_neg (fun hh => hc ⟨hh.1, by omega⟩), if_neg hc, mul_zero]

/-- A sample of another row changes nothing. -/
theorem partTo_miss (n : ℕ) (h : n < 1024) (e : ¬ w = l ⟨n, h⟩) (k : Fin 64) (b : Fin 1024) :
    partTo l x w (n + 1) k b = partTo l x w n k b := by
  unfold partTo
  by_cases hc : w = l b ∧ b.val < n
  · rw [if_pos ⟨hc.1, by omega⟩, if_pos hc, laterTo_miss l n h b (fun hh => e (hc.1.trans hh))]
  · rw [if_neg hc, if_neg]
    rintro ⟨h1, h2⟩
    have hv : b.val = n := by
      by_contra hv; exact hc ⟨h1, by omega⟩
    have : b = ⟨n, h⟩ := Fin.ext hv
    exact e (by rw [← this]; exact h1)

/-- After `n` samples the row is `p` times `keep` to its samples so far, plus `rate` times what they have left. -/
theorem updated_eq (n : ℕ) (hn : n ≤ 1024) (k : Fin 64) :
    updated l x w p n k = keepPow (hitsTo l w n) * p k + rate * ∑ b, partTo l x w n k b := by
  induction n with
  | zero =>
    have h0 : hitsTo l w 0 = 0 := by simp [hitsTo]
    have h1 : ∀ b, partTo l x w 0 k b = 0 := fun b => by simp [partTo]
    rw [h0, keepPow_zero, one_mul, Finset.sum_congr rfl fun b _ => h1 b, Finset.sum_const_zero, mul_zero, add_zero]; rfl
  | succ n ih =>
    have h : n < 1024 := hn
    have ih := ih (le_of_lt h)
    show (if h : n < 1024 then
      (if w = l ⟨n, h⟩ then keep * updated l x w p n k + rate * x ⟨n, h⟩ k else updated l x w p n k)
      else updated l x w p n k) = _
    rw [dif_pos h]
    by_cases e : w = l ⟨n, h⟩
    · rw [if_pos e, ih, hitsTo_hit l w n h e, keepPow_succ, Finset.sum_congr rfl fun b _ => partTo_hit l x w n h e k b,
        Finset.sum_add_distrib, Finset.sum_ite_eq' Finset.univ (⟨n, h⟩ : Fin 1024) (fun b => x b k), if_pos (Finset.mem_univ _),
        ← mul_sum_of_nonneg _ keep keep_nonneg keep_ne_top,
        EReal.left_distrib_of_nonneg_of_ne_top keep_nonneg keep_ne_top,
        EReal.left_distrib_of_nonneg_of_ne_top rate_nonneg rate_ne_top, ← add_assoc, mul_assoc, mul_left_comm rate keep]
    · rw [if_neg e, ih, hitsTo_miss l w n h e, Finset.sum_congr rfl fun b _ => (partTo_miss l x w n h e k b).symm]

/-- The sum that counts the samples of a label is their number. -/
theorem hits_eq : hits l w = ((hitsTo l w 1024 : ℕ) : EReal) := by
  unfold hits hitsTo
  rw [Finset.sum_boole]
  congr 2
  ext b; simp [b.isLt]

/-- The sum that counts the later samples of a label is their number. -/
theorem later_eq (b : Fin 1024) : later l b = ((laterTo l 1024 b : ℕ) : EReal) := by
  unfold later laterTo
  rw [Finset.sum_boole]
  congr 2
  ext b'; simp [b'.isLt]

/-- All 1024 updates, one after the other, leave the row in its closed form. -/
theorem updated_all (k : Fin 64) : updated l x w p 1024 k = moved l x w p k := by
  rw [updated_eq l x w p 1024 le_rfl k]
  unfold moved
  rw [hits_eq, exp_mul_log]
  congr 2
  refine Finset.sum_congr rfl fun b _ => ?_
  rw [later_eq, exp_mul_log]
  unfold partTo
  by_cases e : w = l b
  · rw [if_pos ⟨e, b.isLt⟩, if_pos e, one_mul]
  · rw [if_neg (fun hh => e hh.1), if_neg e, zero_mul]

end Closed

/-! ## The normalized product -/

/-- Dividing every entry of the class row by its norm before the product is multiplying by the norm's inverse after. -/
theorem sum_div_norm (f u : Fin 64 → EReal) :
    ∑ k, f k * Ideal.div (u k) (max (Ideal.sqrt (∑ k, u k * u k)) least) = cosine f u := by
  unfold cosine
  generalize hd : max (Ideal.sqrt (∑ k, u k * u k)) least = d
  have hpos : 0 < d := hd ▸ lt_of_lt_of_le least_pos (le_max_right _ _)
  have hdiv : ∀ a, Ideal.div a d = a * d⁻¹ := fun a => by unfold Ideal.div; rw [if_neg hpos.ne']
  have h0 : 0 ≤ d⁻¹ := EReal.inv_nonneg_of_nonneg hpos.le
  have ht : d⁻¹ ≠ ⊤ := (EReal.inv_lt_top d).ne
  rw [hdiv, one_mul, mul_comm _ d⁻¹, mul_sum_of_nonneg _ _ h0 ht]
  refine Finset.sum_congr rfl fun k _ => ?_
  rw [hdiv, ← mul_assoc, mul_comm]

end Cert.Memory

end
-- ==== Proof.IdealBlock.lean ====
/-
  What the body stores, element by element: at result column `q` of a block, the normalized product of a feature row
  with the closed form of the class row the column stands for.
-/
module

public import proofs.«01_k».proof.Proof.IdealBody
public import proofs.«01_k».proof.Proof.Formula

@[expose] public section

set_option maxRecDepth 16384

noncomputable section

namespace Cert.KernelIdeal.Hand

open Cert.KernelIdeal Cert.KernelIdeal.Gen Cert.Memory
open Idealize.ShloMosaic Idealize.ShloMosaic.TcCoe Idealize.SL.Sem

/-- The named constant of the program is the logarithm of 99/100. -/
theorem named_log : (Named.named (F := Ideal) (φ := .f32) κ "log_m" 0xBC24AA2A#32 : EReal) = logKeep :=
  IdealRules.named_const.ideal_named_scalar κ "log_m" (φ := .f32) _ _ rfl

/-- Equality of words as a bit. -/
theorem eq_bit (x y : BitVec 32) : IntOp.cmpi CmpIPredicate.eq x y = if x = y then 1#1 else 0#1 := by
  unfold IntOp.cmpi
  by_cases h : x = y
  · simp [h]
  · rw [if_neg h, beq_eq_false_iff_ne.2 h]; rfl

/-- Two samples' positions compare as words as they do as numbers. -/
theorem after_bit (b b' : Fin 1024) :
    IntOp.cmpi CmpIPredicate.sgt (BitVec.ofNat 32 b'.val) (BitVec.ofNat 32 b.val) = if b < b' then 1#1 else 0#1 := by
  have h : (BitVec.ofNat 32 b.val).slt (BitVec.ofNat 32 b'.val) = decide (b < b') := by
    have e : ∀ n : Fin 1024, (BitVec.ofNat 32 n.val).toInt = (n.val : ℤ) := fun n => by
      rw [BitVec.toInt_eq_toNat_of_lt] <;> simp only [BitVec.toNat_ofNat] <;> omega
    rw [BitVec.slt, e, e]
    exact decide_eq_decide.2 (by rw [Fin.lt_def]; omega)
  unfold IntOp.cmpi
  simp only [h]
  by_cases h : b < b'
  · simp [h]
  · simp [h]

/-- The left half of the second matrix: each sample's prediction times the power its later ones leave. -/
theorem moves_left (x0 : Vec Ideal S1024x1 .i32) (x1 : Vec Ideal S1x1024 .i32) (x2 : Vec Ideal S1024x64 .f32)
    (hx : ∀ b : Fin 1024, x0 (ix2 b 0) = x1 (ix2 0 b)) (b : Fin 1024) (k : Fin 128) (k' : Fin 64) (hk : k.val = k'.val) :
    k0_pay2 (F := Ideal) x0 x1 x2 (ix2 b k)
      = Ideal.exp (later (fun b => x1 (ix2 0 b)) b * logKeep) * x2 (ix2 b k') := by
  pointwise [k0_pay2]
  rw [dif_pos (by omega : k.val < 64), named_log, hx, show (⟨k.val, by omega⟩ : Fin 64) = k' from Fin.ext hk]
  congr 3
  unfold later
  refine Finset.sum_congr rfl fun b' _ => ?_
  rw [eq_bit, after_bit]
  change _ = if x1 (ix2 0 b) = x1 (ix2 0 b') ∧ b < b' then (1 : EReal) else 0
  by_cases h1 : x1 (ix2 0 b) = x1 (ix2 0 b')
  · by_cases h2 : b < b'
    · rw [if_pos h1, if_pos h2, if_pos ⟨h1, h2⟩]; rfl
    · rw [if_pos h1, if_neg h2, if_neg fun h => h2 h.2]; rfl
  · rw [if_neg h1, if_neg (show ¬ (x1 (ix2 0 b) = x1 (ix2 0 b') ∧ b < b') from fun h => h1 h.1)]
    by_cases h2 : b < b'
    · rw [if_pos h2]; rfl
    · rw [if_neg h2]; rfl

/-- The column beside it is one. -/
theorem moves_right (x0 : Vec Ideal S1024x1 .i32) (x1 : Vec Ideal S1x1024 .i32) (x2 : Vec Ideal S1024x64 .f32) (b : Fin 1024) :
    k0_pay2 (F := Ideal) x0 x1 x2 (ix2 b (64 : Fin 128)) = 1 := by
  pointwise [k0_pay2]

/-- The class row a block's row `q` stands for, as a word. -/
def rowWord (i : grid0.Coords) (q : Fin 4096) : BitVec 32 := BitVec.ofNat 32 (i 0).val * 4096#32 + BitVec.ofNat 32 q.val

/-- The first matrix: one where the sample's label is the row's, zero elsewhere. -/
theorem mask_at (i : grid0.Coords) (x1 : Vec Ideal S1x1024 .i32) (q : Fin 4096) (b : Fin 1024) :
    k0_pay3 (F := Ideal) i x1 (ix2 q b) = if rowWord i q = x1 (ix2 0 b) then 1 else 0 := by
  pointwise [k0_pay3]
  rw [eq_bit]
  change Scalar.select (if rowWord i q = x1 (ix2 0 b) then 1#1 else 0#1) (1 : EReal) 0 = _
  split <;> rfl

/-- The stored block at row `a`, column `q`. -/
theorem stored_at (i : grid0.Coords) (x0 : Vec Ideal S1024x1 .i32) (x1 : Vec Ideal S1x1024 .i32) (x2 x3 : Vec Ideal S1024x64 .f32)
    (x4 : Vec Ideal S4096x64 .f32) (hx : ∀ b : Fin 1024, x0 (ix2 b 0) = x1 (ix2 0 b)) (a : Fin 1024) (q : Fin 4096) :
    stored (F := Ideal) i x0 x1 x2 x3 x4 (ix2 a q)
      = cosine (fun k => x3 (ix2 a k))
          (moved (fun b => x1 (ix2 0 b)) (fun b k => x2 (ix2 b k)) (rowWord i q) (fun k => x4 (ix2 q k))) := by
  have h2 : ∀ (b : Fin 1024) (k : Fin 64) (h : k.val < 128), k0_pay2 (F := Ideal) x0 x1 x2 (ix2 b ⟨k.val, h⟩)
      = Ideal.exp (later (fun b => x1 (ix2 0 b)) b * logKeep) * x2 (ix2 b k) := fun b k h =>
    moves_left x0 x1 x2 hx b ⟨k.val, h⟩ k rfl
  unfold stored
  pointwise [k0_pay1]
  simp only [named_log, moves_right, mask_at, h2, mul_one]
  rfl

end Cert.KernelIdeal.Hand

end
-- ==== Proof.IdealReads.lean ====
/-
  What the body's staging buffers hold, read at their elements: the labels, the predictions and the features whole,
  and of the prototypes the 4096 rows of the grid point, as far as the array has them.
-/
module

public import proofs.«01_k».proof.Proof.IdealBlock
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Memory
open Idealize.ShloMosaic Idealize.ShloMosaic.TcCoe Idealize.SL.Sem
open Idealize.ShloMosaic.Pipeline (Dat)

variable (m : (ℓ : Loc nD τ sig) → Buf (Elt Ideal) ℓ)

/-- The predictions on core `c`. -/
def argX (c : Dev nD) : FVec Ideal S1024x64 .f32 := m ((c : Thread nD τ).loc main_arg0)
/-- The labels. -/
def argL (c : Dev nD) : IVec S1024 32 := m ((c : Thread nD τ).loc main_arg1)
/-- The features. -/
def argF (c : Dev nD) : FVec Ideal S1024x64 .f32 := m ((c : Thread nD τ).loc main_arg2)
/-- The prototypes. -/
def argP (c : Dev nD) : FVec Ideal S100000x64 .f32 := m ((c : Thread nD τ).loc main_arg3)

/-- Where the windows' blocks lie at every grid point. -/
theorem places : ∀ t : Fin cfg0.N, win0_0.index t = ![0, 0] ∧ win0_1.index t = ![0, 0] ∧ win0_2.index t = ![0, 0]
    ∧ win0_3.index t = ![0, 0] ∧ win0_4.index t = ![t.val, 0] ∧ win0_5.index t = ![0, t.val] :=
  (by decide +kernel : ∀ t : Fin grid0.N, _)

/-- How many rows and columns each block has within its array. -/
theorem extents : ∀ t : Fin cfg0.N, win0_4.xsize (grid0.coords t) 0 = min 4096 (100000 - t.val * 4096)
    ∧ win0_4.xsize (grid0.coords t) 1 = 64 ∧ win0_5.xsize (grid0.coords t) 0 = 1024
    ∧ win0_5.xsize (grid0.coords t) 1 = min 4096 (100000 - t.val * 4096) ∧ (grid0.coords t 0).val = t.val ∧ t.val < 25 :=
  (by decide +kernel : ∀ t : Fin grid0.N, _)

/-- The column block of labels holds the labels. -/
theorem block0 (c : Dev nD) (t : Fin cfg0.N) (b : Fin 1024) :
    (show IVec S1024x1 32 from iblk m c 0 t) (ix2 b 0) = argL m c (ix1 b) := by
  unfold argL
  blk_point [iblk, places t]

/-- The row block of labels holds the labels. -/
theorem block1 (c : Dev nD) (t : Fin cfg0.N) (b : Fin 1024) :
    (show IVec S1x1024 32 from iblk m c 1 t) (ix2 0 b) = argL m c (ix1 b) := by
  unfold argL
  blk_point [iblk, places t]

/-- The block of predictions holds the predictions. -/
theorem block2 (c : Dev nD) (t : Fin cfg0.N) (b : Fin 1024) (k : Fin 64) :
    (show FVec Ideal S1024x64 .f32 from iblk m c 2 t) (ix2 b k) = argX m c (ix2 b k) := by
  unfold argX
  blk_point [iblk, V, places t]

/-- The block of features holds the features. -/
theorem block3 (c : Dev nD) (t : Fin cfg0.N) (b : Fin 1024) (k : Fin 64) :
    (show FVec Ideal S1024x64 .f32 from iblk m c 3 t) (ix2 b k) = argF m c (ix2 b k) := by
  unfold argF
  blk_point [iblk, V, places t]

/-- A row of the prototypes' buffer inside the array is the array's row, whatever the rows past its end hold. -/
theorem block4 (c : Dev nD) (t : Fin cfg0.N) (d : FVec Ideal S4096x64 .f32) (q : Fin 4096) (k : Fin 64)
    (h : t.val * 4096 + q.val < 100000) :
    (show FVec Ideal S4096x64 .f32 from win0_4.fill (grid0.coords t) d (iblk m c 4 t)) (ix2 q k)
      = argP m c (ix2 ⟨t.val * 4096 + q.val, h⟩ k) := by
  obtain ⟨e0, e1, -, -, -, ht⟩ := extents t
  have h0 : q.val < win0_4.xsize (grid0.coords t) 0 := by rw [e0]; omega
  have h1 : k.val < win0_4.xsize (grid0.coords t) 1 := by rw [e1]; omega
  let y : (win0_4.xblock (grid0.coords t)).Idx := fun a => match a with | ⟨0, _⟩ => ⟨q.val, h0⟩ | ⟨1, _⟩ => ⟨k.val, h1⟩
  have hy : (ix2 q k : S4096x64.Idx) = win0_4.xinj (grid0.coords t) y := by
    funext a; match a with
    | ⟨0, _⟩ => rfl
    | ⟨1, _⟩ => rfl
  have hj := win0_4.fill_xinj (grid0.coords t) d (iblk m c 4 t) y
  rw [← hy] at hj
  refine hj.trans ?_
  unfold argP iblk
  rw [V_main_arg3]
  refine congrArg (m ((c : Thread nD τ).loc main_arg3)) (?_ : ((cfg0.win 4).blk t).view.emb y = ix2 ⟨t.val * 4096 + q.val, h⟩ k)
  have hy0 : (y 0).val = q.val := rfl
  have hy1 : (y 1).val = k.val := rfl
  blk_ext [places t]
  · exact congrArg (t.val * 4096 + ·) hy0
  · exact hy1

/-- The word of a block's row is the class row's number. -/
theorem rowWord_eq (t : Fin cfg0.N) (q : Fin 4096) : rowWord (grid0.coords t) q = BitVec.ofNat 32 (t.val * 4096 + q.val) := by
  unfold rowWord
  rw [(extents t).2.2.2.2.1, BitVec.ofNat_add, BitVec.ofNat_mul]

end Cert.KernelIdeal.Hand

end
-- ==== Proof.IdealRun.lean ====
/-
  The idealized kernel's run over the extended reals: every grid point leaves its block of the result, the blocks tile
  the result array, and the array ends at one function of the four arguments.
-/
module

public import proofs.«01_k».proof.Proof.IdealReads

@[expose] public section

set_option maxRecDepth 16384

noncomputable section

namespace Cert.KernelIdeal.Hand

open Cert.KernelIdeal Cert.KernelIdeal.Gen Cert.Memory
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the result array ends at -/

/-- The similarity of sample `a` to class `r`: the normalized product of the sample's features with the class's row
    after all updates. -/
def similarity (X : FVec Ideal S1024x64 .f32) (L : IVec S1024 32) (Fe : FVec Ideal S1024x64 .f32)
    (P : FVec Ideal S100000x64 .f32) : FVec Ideal S1024x100000 .f32 := fun j =>
  cosine (fun k => Fe (ix2 (j 0) k)) (moved (fun b => L (ix1 b)) (fun b k => X (ix2 b k)) (BitVec.ofNat 32 (j 1).val)
    (fun k => P (ix2 (j 1) k)))

/-- The body's block at grid point `t`, the prototypes' buffer holding `d` past the array's end. -/
def block (c : Dev nD) (t : Fin cfg0.N) (d : FVec Ideal S4096x64 .f32) : FVec Ideal S1024x4096 .f32 :=
  stored (F := Ideal) (grid0.coords t) (iblk m c 0 t) (iblk m c 1 t) (iblk m c 2 t) (iblk m c 3 t)
    (win0_4.fill (grid0.coords t) d (iblk m c 4 t))

/-- Inside the array a block's element is the array's, whatever lies past the prototypes' end. -/
theorem block_at (c : Dev nD) (t : Fin cfg0.N) (d : FVec Ideal S4096x64 .f32) (a : Fin 1024) (q : Fin 4096)
    (h : t.val * 4096 + q.val < 100000) :
    block m c t d (ix2 a q) = similarity (argX m c) (argL m c) (argF m c) (argP m c) (ix2 a ⟨t.val * 4096 + q.val, h⟩) := by
  unfold block
  refine (stored_at (grid0.coords t) _ _ _ _ _ (fun b => (block0 m c t b).trans (block1 m c t b).symm) a q).trans ?_
  have e1 : (fun b : Fin 1024 => (show IVec S1x1024 32 from iblk m c 1 t) (ix2 0 b)) = fun b => argL m c (ix1 b) :=
    funext fun b => block1 m c t b
  have e2 : (fun (b : Fin 1024) (k : Fin 64) => (show FVec Ideal S1024x64 .f32 from iblk m c 2 t) (ix2 b k)) = fun b k => argX m c (ix2 b k) :=
    funext fun b => funext fun k => block2 m c t b k
  have e3 : (fun k : Fin 64 => (show FVec Ideal S1024x64 .f32 from iblk m c 3 t) (ix2 a k)) = fun k => argF m c (ix2 a k) :=
    funext fun k => block3 m c t a k
  have e4 : (fun k : Fin 64 => (show FVec Ideal S4096x64 .f32 from win0_4.fill (grid0.coords t) d (iblk m c 4 t)) (ix2 q k))
      = fun k => argP m c (ix2 ⟨t.val * 4096 + q.val, h⟩ k) :=
    funext fun k => block4 m c t d q k h
  exact congr (congrArg cosine e3) (congr (congr (congr (congrArg moved e1) e2) (rowWord_eq t q)) e4)

/-- What the write-back of a block moves does not depend on what lies past the prototypes' end. -/
theorem block_cut (c : Dev nD) (t : Fin cfg0.N) (d d' : FVec Ideal S4096x64 .f32) :
    win0_5.cut (grid0.coords t) (block m c t d) = win0_5.cut (grid0.coords t) (block m c t d') := by
  funext y
  obtain ⟨-, -, e0, e1, -, ht⟩ := extents t
  have h0 : (y 0).val < 1024 := e0 ▸ (y 0).isLt
  have h1 : (y 1).val < min 4096 (100000 - t.val * 4096) := e1 ▸ (y 1).isLt
  have h : t.val * 4096 + (y 1).val < 100000 := by omega
  have hy : win0_5.xinj (grid0.coords t) y = (ix2 ⟨(y 0).val, h0⟩ ⟨(y 1).val, by omega⟩ : S1024x4096.Idx) := by
    funext a; match a with
    | ⟨0, _⟩ => rfl
    | ⟨1, _⟩ => rfl
  show block m c t d (win0_5.xinj (grid0.coords t) y) = block m c t d' (win0_5.xinj (grid0.coords t) y)
  rw [hy]
  exact (block_at m c t d _ _ h).trans (block_at m c t d' _ _ h).symm

/-! ## The proof data -/

/-- A filler for the rows of the prototypes' buffer past the array's end, which nothing reads. -/
def pad : FVec Ideal S4096x64 .f32 := fun _ => 0

/-- The proof data on core `c`: the arrays as the region finds them; after the body each input's buffer at its
    block (the prototypes' on the rows inside the array), the result's at its block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) pad (iblk m c 4 t)
    | ⟨5, _⟩ => block m c t pad
  Φ _ := Pipeline.ΦA spec0 c
  q _ := fullShare
  owed _ := 0

/-- The array of a window is the contents the launch finds in it. -/
theorem arr_eq (c : Dev nD) (w : Fin cfg0.W) : (dats m 0 c).A w = V m c (Pipeline.arrRef spec0 w) := by
  dsimp only [dats]

/-- Every grid point finds window 0's block, the label column. -/
theorem found0 (c : Dev nD) (t : Fin cfg0.N) (d) : (dats m 0 c).before 0 t d = iblk m c 0 t :=
  before0_0_of m (dats m 0 c) (arr_eq m c 0) (fun t => by dsimp only [dats]) t d
/-- Every grid point finds window 1's block, the label row. -/
theorem found1 (c : Dev nD) (t : Fin cfg0.N) (d) : (dats m 0 c).before 1 t d = iblk m c 1 t :=
  before0_1_of m (dats m 0 c) (arr_eq m c 1) (fun t => by dsimp only [dats]) t d
/-- Every grid point finds window 2's block, the predictions. -/
theorem found2 (c : Dev nD) (t : Fin cfg0.N) (d) : (dats m 0 c).before 2 t d = iblk m c 2 t :=
  before0_2_of m (dats m 0 c) (arr_eq m c 2) (fun t => by dsimp only [dats]) t d
/-- Every grid point finds window 3's block, the features. -/
theorem found3 (c : Dev nD) (t : Fin cfg0.N) (d) : (dats m 0 c).before 3 t d = iblk m c 3 t :=
  before0_3_of m (dats m 0 c) (arr_eq m c 3) (fun t => by dsimp only [dats]) t d
/-- Every grid point finds the prototypes' at its block on the rows inside the array, at anything past them. -/
theorem found4 (c : Dev nD) (t : Fin cfg0.N) (d) :
    (dats m 0 c).before 4 t d = win0_4.fill (grid0.coords t) d (iblk m c 4 t) := by
  rw [Dat.before_fetched _ 4 t (fetch0_4 t)]
  unfold Dat.fetched Dat.blockOf iblk; rw [arr_eq]

/-- What the body leaves is the named block, whatever lay past the prototypes' end. -/
theorem after5_fill (c : Dev nD) (t : Fin cfg0.N) (d : FVec Ideal S4096x64 .f32) :
    win0_5.fill (grid0.coords t) (stored (F := Ideal) (grid0.coords t) (iblk m c 0 t) (iblk m c 1 t) (iblk m c 2 t) (iblk m c 3 t)
      (win0_4.fill (grid0.coords t) d (iblk m c 4 t))) (win0_5.cut (grid0.coords t) ((dats m 0 c).after 5 t))
      = stored (F := Ideal) (grid0.coords t) (iblk m c 0 t) (iblk m c 1 t) (iblk m c 2 t) (iblk m c 3 t)
        (win0_4.fill (grid0.coords t) d (iblk m c 4 t)) :=
  win0_5.fill_congr_cut (grid0.coords t) (block_cut m c t d pad)

/-- The library's body obligation. -/
theorem obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [found0 m c t d0, found1 m c t d1, found2 m c t d2, found3 m c t d3, found4 m c t d4]
  iapply (body_runs (F := Ideal) c Set.univ (grid0.coords t) _ _ _ _ _ _ _ _ _ _ _ _ (iblk m c 0 t) (iblk m c 1 t) (iblk m c 2 t)
    (iblk m c 3 t) (win0_4.fill (grid0.coords t) d4 (iblk m c 4 t)) ((dats m 0 c).before 5 t d5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists d4
    have hcut : win0_4.cut (grid0.coords t) ((dats m 0 c).after 4 t) = iblk m c 4 t := win0_4.cut_fill _ _ _
    change _ ⊢ owns (c : Thread nD τ) (win0_4.stage (cfg0.slots t 4)) fullShare
      (win0_4.fill (grid0.coords t) d4 (win0_4.cut (grid0.coords t) ((dats m 0 c).after 4 t)))
    rw [hcut]
  iexists stored (F := Ideal) (grid0.coords t) (iblk m c 0 t) (iblk m c 1 t) (iblk m c 2 t) (iblk m c 3 t)
    (win0_4.fill (grid0.coords t) d4 (iblk m c 4 t))
  change _ ⊢ owns (c : Thread nD τ) (win0_5.stage (cfg0.slots t 5)) fullShare
    (win0_5.fill (grid0.coords t) (stored (F := Ideal) (grid0.coords t) (iblk m c 0 t) (iblk m c 1 t) (iblk m c 2 t) (iblk m c 3 t)
      (win0_4.fill (grid0.coords t) d4 (iblk m c 4 t))) (win0_5.cut (grid0.coords t) ((dats m 0 c).after 5 t)))
  rw [after5_fill m c t d4]

/-- The result array ends at the similarities. -/
theorem result_eq (c : Dev nD) :
    (dats m 0 c).arrAt 5 (cfgs 0).N = similarity (argX m c) (argL m c) (argF m c) (argP m c) := by
  refine (dats m 0 c).arrAt_eq_of_covers 5 _ (by decide +kernel) fun t _ y => ?_
  obtain ⟨-, -, e0, e1, -, ht⟩ := extents t
  have h0 : (y 0).val < 1024 := e0 ▸ (y 0).isLt
  have h1 : (y 1).val < min 4096 (100000 - t.val * 4096) := e1 ▸ (y 1).isLt
  have h : t.val * 4096 + (y 1).val < 100000 := by omega
  have hy : win0_5.xinj (grid0.coords t) y = (ix2 ⟨(y 0).val, h0⟩ ⟨(y 1).val, by omega⟩ : S1024x4096.Idx) := by
    funext a; match a with
    | ⟨0, _⟩ => rfl
    | ⟨1, _⟩ => rfl
  refine (?_ : block m c t pad (win0_5.xinj (grid0.coords t) y) = _)
  rw [hy]
  refine (block_at m c t pad _ _ h).trans (congrArg _ ?_)
  blk_ext [places t]

/-- Every weakly fair execution of @main terminates; every final state has each window's array at its contents after
    all write-backs, the buffers no window stages as the region found them, and every semaphore counter at zero. -/
theorem run_main : θ_run defs (onTc (τ := τ) (main (F := Ideal))) (s₀ m ρ)
    (fun r => Pipeline.FramePost cfgs (dats m) 0 (V m) r ∧ r.2.sem = fun _ => 0) :=
  Pipeline.θ_run_frame cfgs (dats m) 0 launch0 defs₀ Variants.none m ρ main
    (hbody := obligation m) (hshare := fun c => (dats m 0 c).share_full fun _ => rfl) (howed := fun _ _ => rfl)
    (V := V m) (hmain := hmain m Variants.none) (hA := arr_eq m) (hΦ := fun _ _ => rfl) (Q' := _)

/-- The idealized kernel runs; its result ends at the similarities, its four argument arrays end unchanged and every
    counter ends at zero. -/
theorem run : θ_run defs (onTc (τ := τ) (main (F := Ideal))) ⟨m, fun _ => 0, ρ⟩ (fun r => (∀ c : Dev nD,
      r.2.mem ((c.tc : Thread nD τ).loc main_v0) = similarity (argX m c) (argL m c) (argF m c) (argP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ (h : _ ∧ _) => ⟨fun c =>
    ⟨((h.1 c).1 5).trans (result_eq m c),
      ((h.1 c).1 2).trans (((dats m 0 c).arrAt_in 2 rfl _).trans ((arr_eq m c 2).trans (V_main_arg0 m c))),
      ((h.1 c).2 main_arg1 (Pipeline.mem_restRefs_of main_arg1 (by decide) (by decide))).trans (V_main_arg1 m c),
      ((h.1 c).1 3).trans (((dats m 0 c).arrAt_in 3 rfl _).trans ((arr_eq m c 3).trans (V_main_arg2 m c))),
      ((h.1 c).1 4).trans (((dats m 0 c).arrAt_in 4 rfl _).trans ((arr_eq m c 4).trans (V_main_arg3 m c)))⟩, h.2⟩) (run_main m ρ)

end Cert.KernelIdeal.Hand

end
-- ==== Proof.RefLoop.lean ====
/-
  The reference's run over its loop's states: the protos table, the predictions and the labels, stepped 1024 times.
-/
module

public import proofs.«01_k».proof.Proof.Gen.ReferenceIdeal.Run
public import proofs.«01_k».proof.Proof.Gen.ReferenceIdeal.Step

@[expose] public section

set_option maxRecDepth 16384

noncomputable section

namespace Cert.ReferenceIdeal.Hand

open Cert.ReferenceIdeal Cert.ReferenceIdeal.Gen Cert.ReferenceIdeal.Value Cert.ReferenceIdeal.Step
open Idealize.ShloMosaic Idealize.ShloMosaic.TcCoe Idealize.SL.Sem Idealize.ShloMosaic.StableHlo

variable {F : FTy → Type} [FloatOps F]

/-- The buffers hold state `s` before trip `n`: the three arrays of `s`, the trip's number, and the factor 99/100. -/
def Carries (V : Valuation τ sig (Elt F)) (s : State F) (n : ℕ) : Prop :=
  (V (Proc.devRef .tc main_v1_0) = s.main_v1_0 ∧ V (Proc.devRef .tc main_v1_1) = s.main_v1_1
    ∧ V (Proc.devRef .tc main_v1_4) = s.main_v1_4)
  ∧ V (Proc.devRef .tc main_v1_3) = constantI S_ 32 (BitVec.ofNat 32 n) ∧ V (Proc.devRef .tc main_v1_2) = K_main_v0 (F := F)

/-- The table a trip leaves is the state's next one. -/
theorem table_steps {V : Valuation τ sig (Elt F)} {s : State F} {n : ℕ} (h : Carries V s n) :
    Value.step_main_v1_4 V = (step n s).main_v1_4 := by
  obtain ⟨⟨hx, hl, hp⟩, hn, hk⟩ := h
  rw [Step.step_main_v1_4]
  unfold Value.step_main_v1_4 res_main_while0b_v10
  rw [hx, hl, hp, hn, hk, id]
  unfold b32 b31 b30 b29 b28 b27 b26 b25 b24 b23 b22 b21 b20 b19 b18 b17 b16 b15 b14 b13 b12 b11 b10 b9 b8 b7 b6 b5 b4 b3
    b2 b1 b0
  rfl

/-- The counter goes on to the next number. -/
theorem counter_steps {V : Valuation τ sig (Elt F)} {s : State F} {n : ℕ} (h : Carries V s n) :
    step_main_v1_3 V = constantI S_ 32 (BitVec.ofNat 32 (n + 1)) := by
  unfold step_main_v1_3
  rw [h.2.1]
  exact funext fun i => (BitVec.ofNat_add n 1).symm

/-- So one trip carries the next state. -/
theorem carries_step {V : Valuation τ sig (Elt F)} {s : State F} {n : ℕ} (h : Carries V s n) :
    Carries (STEP V) (step n s) (n + 1) :=
  ⟨⟨(STEP_main_v1_0 V).trans h.1.1, (STEP_main_v1_1 V).trans h.1.2.1, (STEP_main_v1_4 V).trans (table_steps h)⟩,
    (STEP_main_v1_3 V).trans (counter_steps h), (STEP_main_v1_2 V).trans h.2.2⟩

variable (m : (ℓ : Loc nD τ sig) → Buf (Elt F) ℓ) (c : Dev nD)

/-- The state before trip `n`, of the memory the run starts from. -/
def stateAt : ℕ → State F
  | 0 => init (m ((c.tc : Thread nD τ).loc main_arg3)) (m ((c.tc : Thread nD τ).loc main_arg0)) (m ((c.tc : Thread nD τ).loc main_arg1))
  | n + 1 => step n (stateAt n)

set_option maxRecDepth 65536 in
/-- What stands before the loop carries the first state. -/
theorem carries_entry : Carries (entryContents preI m c) (stateAt m c 0) 0 := by
  refine ⟨⟨?_, ?_, ?_⟩, ?_, ?_⟩ <;> (simp only [entryContents, afterL_cons, afterL_nil]; after_reads_simp) <;> rfl

/-- After `n` trips the buffers hold state `n`. -/
theorem carries_at (n : ℕ) : Carries (STEP^[n] (entryContents preI m c)) (stateAt m c n) n := by
  induction n with
  | zero => exact carries_entry m c
  | succ n ih => rw [Function.iterate_succ_apply']; exact carries_step ih

/-- What the operations after the loop make of a carried state. -/
theorem result_of {V : Valuation τ sig (Elt F)} {s : State F} {n : ℕ} (h : Carries V s n)
    (f : (⟨S1024x64, .f32⟩ : BufTy).Contents (Elt F)) (hf : V (Proc.devRef .tc main_arg2) = f) :
    out_main_v8 V = R_main_v8 s f := by
  unfold out_main_v8 R_main_v8
  rw [h.1.2.2, hf]

/-- Every execution of the reference ends with its result made of the state after 1024 trips, and its arguments as they were. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v8) = R_main_v8 (stateAt m c 1024) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans (result_of (carries_at m c 1024) _ (iter_main_arg2 m c 1024)), (h c).2⟩) (Value.run m ρ)

end Cert.ReferenceIdeal.Hand

end
-- ==== Proof.RefTrip.lean ====
/-
  One trip of the reference's loop, read at an element: the row of the sample's label moves, every other row stays.
-/
module

public import proofs.«01_k».proof.Proof.RefLoop
public import proofs.«01_k».proof.Proof.Formula
public import Idealize.ShloMosaic.Lib.Routing.OpsSet
public import Idealize.ShloMosaic.Lib.DynamicIndex

@[expose] public section

set_option maxRecDepth 16384

noncomputable section

namespace Cert.ReferenceIdeal.Hand

open Cert.ReferenceIdeal Cert.ReferenceIdeal.Gen Cert.ReferenceIdeal.Step Cert.Memory
open Idealize.ShloMosaic Idealize.ShloMosaic.TcCoe Idealize.SL.Sem
open Idealize.ShloMosaic.Routing (scatter_set_hit scatter_set_miss)

/-! ## The write of one row -/

/-- The window starts at the row that the index word names, read signed. -/
theorem start_row (k : S64.Idx) (idx : IVec S1 32) :
    scatter_S100000x64_S1_S64_0_0_0_0.start k idx 0 = (idx (ix1 0)).toInt := by
  unfold ScatterDims.start
  rw [dif_pos (by decide)]
  exact congrArg (fun i => (idx i).toInt) (funext fun b => by
    match b with
    | ⟨0, _⟩ => exact Subsingleton.elim (α := Fin 1) _ _)

/-- The window starts at column zero. -/
theorem start_col (k : S64.Idx) (idx : IVec S1 32) : scatter_S100000x64_S1_S64_0_0_0_0.start k idx 1 = 0 := by
  unfold ScatterDims.start
  rw [dif_neg (by decide)]

/-- The window has one row. -/
theorem window_row (k : S64.Idx) : scatter_S100000x64_S1_S64_0_0_0_0.window k 0 = 0 := by
  unfold ScatterDims.window
  rw [dif_neg (by decide)]

/-- Element `k` of the window is in column `k`. -/
theorem window_col (k : S64.Idx) : scatter_S100000x64_S1_S64_0_0_0_0.window k 1 = (k 0).val := by
  unfold ScatterDims.window
  rw [dif_pos (by decide)]
  rfl

/-- Element `k` of the update lands in row `r`, column `k'`, exactly when the index word is `r` and `k` is `k'`. -/
theorem lands_iff (k : S64.Idx) (idx : IVec S1 32) (r : Fin 100000) (k' : Fin 64) :
    scatter_S100000x64_S1_S64_0_0_0_0.resultIdx? k idx = some (ix2 r k') ↔ (idx (ix1 0)).toInt = (r.val : ℤ) ∧ k 0 = k' := by
  refine (Routing.resultIdx?_ix2 _ k idx r k').trans ?_
  rw [start_row, start_col, window_row, window_col]
  constructor
  · rintro ⟨h1, h2⟩; exact ⟨by simpa using h1, Fin.ext (by simpa using h2)⟩
  · rintro ⟨h1, h2⟩; exact ⟨by simpa using h1, by rw [h2]; simp⟩

/-- Writing a row: the row that the index word names is the update, every other row the operand's. -/
theorem write_row (x : FVec Ideal S100000x64 .f32) (idx : IVec S1 32) (u : FVec Ideal S64 .f32) (r : Fin 100000) (k : Fin 64) :
    Host.scatter scatter_S100000x64_S1_S64_0_0_0_0 (fun _ b => b) x idx u (ix2 r k)
      = if (idx (ix1 0)).toInt = (r.val : ℤ) then u (ix1 k) else x (ix2 r k) := by
  by_cases h : (idx (ix1 0)).toInt = (r.val : ℤ)
  · rw [if_pos h]
    refine scatter_set_hit _ x idx u _ _ (fun j hj => ?_) (ix1 k) ((lands_iff _ idx r k).2 ⟨h, rfl⟩)
    have e := ((lands_iff j idx r k).1 hj).2
    rw [eq_ix1 j]; exact congrArg (fun t => u (ix1 t)) e
  · rw [if_neg h]
    exact scatter_set_miss _ x idx u _ fun j hj => h ((lands_iff j idx r k).1 hj).1

/-! ## The trip -/

variable (s : State Ideal) (n : ℕ) (hn : n < 1024)

/-- The predictions of a state. -/
def preds (s : State Ideal) : FVec Ideal S1024x64 .f32 := s.main_v1_0
/-- The labels. -/
def labels (s : State Ideal) : IVec S1024 32 := s.main_v1_1
/-- The table of rows. -/
def rows (s : State Ideal) : FVec Ideal S100000x64 .f32 := s.main_v1_4

include hn in
/-- The trip's number as a word, read signed, is the number. -/
theorem toInt_pos : (BitVec.ofNat 32 n).toInt = (n : ℤ) := toInt_ofNat_of_lt (by omega)

/-- The trip's label. -/
theorem label_at (j : S_.Idx) : (show IVec S_ 32 from b4 n s) j = labels s (ix1 ⟨n, hn⟩) := by
  have h : (show IVec S1 32 from b3 n s) = extractStridedSlice S1 ![n] (labels s) ⟨rfl, by intro a; fin_cases a; show n + 1 ≤ 1024; omega⟩ := by
    refine Host.dynamicSlice_eq_extractStridedSlice S1 (labels s) _ ![n] _ _ fun a => ?_
    fin_cases a
    exact toInt_pos n hn
  show shapeCast S_ (show IVec S1 32 from b3 n s) shapeCasts_S1_S_ j = _
  rw [h]
  pointwise

/-- The trip's prediction. -/
theorem pred_at (k : Fin 64) : (show FVec Ideal S64 .f32 from b2 n s) (ix1 k) = preds s (ix2 ⟨n, hn⟩ k) := by
  have h : (show FVec Ideal S1x64 .f32 from b1 n s) = extractStridedSlice S1x64 ![n, 0] (preds s)
      ⟨rfl, by intro a; fin_cases a; (show n + 1 ≤ 1024; omega); (show 0 + 64 ≤ 64; omega)⟩ := by
    refine Host.dynamicSlice_eq_extractStridedSlice S1x64 (preds s) _ ![n, 0] _ _ fun a => ?_
    fin_cases a
    · exact toInt_pos n hn
    · rfl
  show shapeCast S64 (show FVec Ideal S1x64 .f32 from b1 n s) shapeCasts_S1x64_S64 (ix1 k) = _
  rw [h]
  pointwise

variable (h0 : 0 ≤ (labels s (ix1 ⟨n, hn⟩)).toInt)

include h0 in
/-- The row index the trip reads at is the label. -/
theorem read_at (j : S_.Idx) : (show IVec S_ 32 from b9 n s) j = labels s (ix1 ⟨n, hn⟩) := by
  refine (select_slt_zero_of_nonneg (show IVec S_ 32 from b4 n s) _ _ j ?_).trans (label_at s n hn j)
  rw [label_at s n hn j]; exact h0

include h0 in
/-- The row index the trip writes at is the label. -/
theorem write_at : (show IVec S1 32 from b31 n s) (ix1 0) = labels s (ix1 ⟨n, hn⟩) := by
  have h : ∀ j : S_.Idx, (show IVec S_ 32 from b30 n s) j = labels s (ix1 ⟨n, hn⟩) := fun j => by
    refine (select_slt_zero_of_nonneg (show IVec S_ 32 from b4 n s) _ _ j ?_).trans (label_at s n hn j)
    rw [label_at s n hn j]; exact h0
  exact h _

include h0 in
/-- The row the trip reads. -/
theorem row_at (r : Fin 100000) (hr : (labels s (ix1 ⟨n, hn⟩)).toInt = (r.val : ℤ)) (k : Fin 64) :
    (show FVec Ideal S64 .f32 from b19 n s) (ix1 k) = rows s (ix2 r k) := by
  have h : (show FVec Ideal S1x64 .f32 from b18 n s) = extractStridedSlice S1x64 ![r.val, 0] (rows s)
      ⟨rfl, by intro a; fin_cases a; (show r.val + 1 ≤ 100000; omega); (show 0 + 64 ≤ 64; omega)⟩ := by
    refine Host.dynamicSlice_eq_extractStridedSlice S1x64 (rows s) _ ![r.val, 0] _ _ fun a => ?_
    fin_cases a
    · exact (congrArg BitVec.toInt (read_at s n hn h0 _)).trans hr
    · rfl
  show shapeCast S64 (show FVec Ideal S1x64 .f32 from b18 n s) shapeCasts_S1x64_S64 (ix1 k) = _
  rw [h]
  pointwise

include h0 in
/-- A trip moves the row of its label and leaves every other one. -/
theorem trip_at (r : Fin 100000) (k : Fin 64) :
    rows (step n s) (ix2 r k) = if BitVec.ofNat 32 r.val = labels s (ix1 ⟨n, hn⟩)
      then keep * rows s (ix2 r k) + rate * preds s (ix2 ⟨n, hn⟩ k) else rows s (ix2 r k) := by
  have hw : BitVec.ofNat 32 r.val = labels s (ix1 ⟨n, hn⟩) ↔ (labels s (ix1 ⟨n, hn⟩)).toInt = (r.val : ℤ) := by
    have hr : (BitVec.ofNat 32 r.val).toInt = (r.val : ℤ) := toInt_ofNat_of_lt (by omega)
    constructor
    · intro e; rw [← e]; exact hr
    · intro e; exact BitVec.eq_of_toInt_eq (hr.trans e.symm)
  show (show FVec Ideal S100000x64 .f32 from b32 n s) (ix2 r k) = _
  refine (write_row (rows s) (show IVec S1 32 from b31 n s) (show FVec Ideal S64 .f32 from b25 n s) r k).trans ?_
  rw [write_at s n hn h0]
  by_cases e : (labels s (ix1 ⟨n, hn⟩)).toInt = (r.val : ℤ)
  · rw [if_pos e, if_pos (hw.2 e), ← row_at s n hn h0 r e k, ← pred_at s n hn k, ← div_eq_keep]
    unfold b25 b24 b23 b22 b21 b20
    rfl
  · rw [if_neg e, if_neg fun h => e (hw.1 h)]

end Cert.ReferenceIdeal.Hand

end
-- ==== Proof.RefRun.lean ====
/-
  What the reference's run ends at: each entry of its result is the normalized product of a feature row with the class's
  row after the 1024 updates, in closed form.
-/
module

public import proofs.«01_k».proof.Proof.RefTrip
public import Idealize.ShloMosaic.Lib.Quiescent

@[expose] public section

set_option maxRecDepth 16384

noncomputable section

namespace Cert.ReferenceIdeal.Hand

open Cert.ReferenceIdeal Cert.ReferenceIdeal.Gen Cert.ReferenceIdeal.Step Cert.Memory
open Idealize.ShloMosaic Idealize.ShloMosaic.TcCoe Idealize.SL.Sem

/-- The operations after the loop: each entry is the product of a feature row with a normalized row of the table. -/
theorem product_at (s : State Ideal) (f : FVec Ideal S1024x64 .f32) (a : Fin 1024) (r : Fin 100000) :
    (show FVec Ideal S1024x100000 .f32 from R_main_v8 s f) (ix2 a r)
      = cosine (fun k => f (ix2 a k)) (fun k => rows s (ix2 r k)) := by
  rw [← sum_div_norm]
  unfold R_main_v8
  pointwise
  rfl

variable (m : (ℓ : Loc nD τ sig) → Buf (Elt Ideal) ℓ) (c : Dev nD)

/-- The predictions, of a device's arguments. -/
def argX : FVec Ideal S1024x64 .f32 := m ((c.tc : Thread nD τ).loc main_arg0)
/-- The labels. -/
def argL : IVec S1024 32 := m ((c.tc : Thread nD τ).loc main_arg1)
/-- The features. -/
def argF : FVec Ideal S1024x64 .f32 := m ((c.tc : Thread nD τ).loc main_arg2)
/-- The table of prototypes. -/
def argP : FVec Ideal S100000x64 .f32 := m ((c.tc : Thread nD τ).loc main_arg3)

/-- The trips keep the predictions the argument's. -/
theorem preds_stateAt (n : ℕ) : preds (stateAt m c n) = argX m c := by
  induction n with
  | zero => rfl
  | succ n ih => exact ih

/-- The labels stay the argument's. -/
theorem labels_stateAt (n : ℕ) : labels (stateAt m c n) = argL m c := by
  induction n with
  | zero => rfl
  | succ n ih => exact ih

/-- Before trip `n` every row of the table is the argument's after the first `n` updates. -/
theorem rows_stateAt (hl : ∀ b : Fin 1024, 0 ≤ (argL m c (ix1 b)).toInt) (r : Fin 100000) (n : ℕ) (hn : n ≤ 1024) (k : Fin 64) :
    rows (stateAt m c n) (ix2 r k) = updated (fun b => argL m c (ix1 b)) (fun b k => argX m c (ix2 b k)) (BitVec.ofNat 32 r.val)
      (fun k => argP m c (ix2 r k)) n k := by
  induction n generalizing k with
  | zero => rfl
  | succ n ih =>
    have hn' : n < 1024 := hn
    have h := trip_at (stateAt m c n) n hn' (by rw [labels_stateAt]; exact hl _) r k
    rw [labels_stateAt, preds_stateAt, ih (by omega)] at h
    refine h.trans ?_
    simp only [updated, dif_pos hn']

/-- The reference's result, of its arguments. -/
theorem result_at (hl : ∀ b : Fin 1024, 0 ≤ (argL m c (ix1 b)).toInt) (a : Fin 1024) (r : Fin 100000) :
    (show FVec Ideal S1024x100000 .f32 from R_main_v8 (stateAt m c 1024) (argF m c)) (ix2 a r)
      = cosine (fun k => argF m c (ix2 a k)) (moved (fun b => argL m c (ix1 b)) (fun b k => argX m c (ix2 b k))
          (BitVec.ofNat 32 r.val) (fun k => argP m c (ix2 r k))) := by
  refine (product_at (stateAt m c 1024) (argF m c) a r).trans (congrArg (cosine _) (funext fun k => ?_))
  exact (rows_stateAt m c hl r 1024 le_rfl k).trans (updated_all _ _ _ _ k)

/-- The reference keeps its arguments, and every semaphore counter ends at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (run_states m ρ)

end Cert.ReferenceIdeal.Hand

end
-- ==== Proof.Labels.lean ====
/-
  The precondition read back: where it holds, no label is negative.
-/
module

public import proofs.«01_k».proof.Pre_labels_nonnegative
public import Idealize.ShloMosaic.Lib.ReduceAll
public import Idealize.ShloMosaic.Lib.ValueIdx

@[expose] public section

namespace Cert.Pre_labels_nonnegative

open Idealize.ShloMosaic

/-- The shape relations the precondition's operations take. -/
theorem facts : Facts where
  bcast_S_S1024 := by decide
  reducesTo_S1024_S_d0 := by decide
  h_S_ := by decide

/-- A shape without axes has one index. -/
instance : Subsingleton S_.Idx := ⟨fun _ _ => funext fun a => a.elim0⟩

/-- Where the precondition is 1, every label, read signed, is at least 0. -/
theorem label_nonneg [Facts] {F : FTy → Type} [FloatOps F] (x : FVec F S1024x64 .f32) (l : IVec S1024 32) (f : FVec F S1024x64 .f32)
    (p : FVec F S100000x64 .f32) (h : fn x l f p = fun _ => 1#1) (i : S1024.Idx) : 0 ≤ (l i).toInt := by
  have e := Host.reduce_andi_all _ _ _ _ (fun a => a.elim0) (congrFun h fun a => a.elim0) i
  have g : IntOp.cmpi .sge (l i) 0#32 = 1#1 := e
  exact IntOp.cmpi_sge.1 g

end Cert.Pre_labels_nonnegative
-- ==== Proof.lean ====
/-
  The claims: each program runs and keeps its arguments; the idealized kernel is the kernel with one constant named; and the
  idealized kernel and the reference end with equal results.
-/
module

public import proofs.«01_k».proof.Defs
public import proofs.«01_k».proof.Proof.KernelFrame
public import proofs.«01_k».proof.Proof.IdealRun
public import proofs.«01_k».proof.Proof.RefRun
public import proofs.«01_k».proof.Proof.Labels

@[expose] public section

noncomputable section

namespace Cert.Proof

open Idealize.ShloMosaic Idealize.SL.Sem

/-- The named constant is the logarithm that it stands for. -/
theorem preserves : Cert.preserves_Kernel_KernelIdeal :=
  IdealRules.named_const.statement Cert.KernelIdeal.κ "log_m" .f32 0xBC24AA2A#32 ((Real.log (99 / 100) : ℝ) : EReal) rfl

/-- The idealized kernel keeps its arguments, and every semaphore counter ends at zero. -/
theorem ideal_frame : Cert.quiescent_KernelIdeal := fun m g _ =>
  (θ_run _ _ _).mono (fun _ h => ⟨fun c => (h.1 c).2, h.2⟩) (Cert.KernelIdeal.Hand.run m g)

/-- From equal arguments, with no label negative, the idealized kernel and the reference end with the same array. -/
theorem algebraic [Cert.Pre_labels_nonnegative.Facts] :
    Cert.algebraic_KernelIdeal_ReferenceIdeal_pre_labels_nonnegative := by
  intro m g m' g' hpre hargs
  refine ⟨fun c => Cert.KernelIdeal.Hand.similarity (Cert.KernelIdeal.Hand.argX m c) (Cert.KernelIdeal.Hand.argL m c)
    (Cert.KernelIdeal.Hand.argF m c) (Cert.KernelIdeal.Hand.argP m c),
    (θ_run _ _ _).mono (fun _ h => h.1) (Cert.KernelIdeal.Hand.run m g),
    (θ_run _ _ _).mono (fun r h c => ⟨(h c).1.trans ?_, (h c).2⟩) (Cert.ReferenceIdeal.Hand.run_states m' g')⟩
  obtain ⟨hx, hl, hf, hp⟩ := hargs c
  have ex : Cert.ReferenceIdeal.Hand.argX m' c = Cert.KernelIdeal.Hand.argX m c := hx
  have el : Cert.ReferenceIdeal.Hand.argL m' c = Cert.KernelIdeal.Hand.argL m c := hl
  have ef : Cert.ReferenceIdeal.Hand.argF m' c = Cert.KernelIdeal.Hand.argF m c := hf
  have ep : Cert.ReferenceIdeal.Hand.argP m' c = Cert.KernelIdeal.Hand.argP m c := hp
  have hn : ∀ b : Fin 1024, 0 ≤ (Cert.ReferenceIdeal.Hand.argL m' c (ix1 b)).toInt := fun b => by
    rw [el]; exact Cert.Pre_labels_nonnegative.label_nonneg _ _ _ _ (hpre c) (ix1 b)
  beta_reduce
  rw [← ex, ← el, ← ef, ← ep]
  exact funext fun j => (congrArg _ (eq_ix2 j)).trans (Cert.ReferenceIdeal.Hand.result_at m' c hn (j 0) (j 1))

/-- All claims together. -/
theorem claim : Cert.Claim :=
  ⟨Cert.Kernel.Gen.facts, Cert.KernelIdeal.Gen.facts, Cert.ReferenceIdeal.Gen.facts, Cert.Pre_labels_nonnegative.facts,
    fun m g _ => Cert.Kernel.Hand.frame m g,
    ideal_frame,
    fun m g _ => ideal_frame m g trivial,
    fun m g _ => Cert.ReferenceIdeal.Hand.frame m g,
    fun m g _ => Cert.ReferenceIdeal.Hand.frame m g,
    preserves,
    haveI := Cert.Pre_labels_nonnegative.facts
    algebraic⟩

end Cert.Proof

end
